-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S1x1x1024 : Shape := ⟨3, ![1, 1, 1024]⟩
abbrev S4x8192 : Shape := ⟨2, ![4, 8192]⟩
abbrev S4x8192x1 : Shape := ⟨3, ![4, 8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S1, .i32⟩
  | .hbm, ⟨16, _⟩ => ⟨S_, .i32⟩
  | .hbm, ⟨17, _⟩ => ⟨S8192x1, .i32⟩
  | .hbm, ⟨18, _⟩ => ⟨S8192x1, .i1⟩
  | .hbm, ⟨19, _⟩ => ⟨S1x1, .i32⟩
  | .hbm, ⟨20, _⟩ => ⟨S8192x1, .i32⟩
  | .hbm, ⟨21, _⟩ => ⟨S8192x1, .i1⟩
  | .hbm, ⟨22, _⟩ => ⟨S8192x1, .i1⟩
  | .hbm, ⟨23, _⟩ => ⟨S_, .i1⟩
  | .hbm, ⟨24, _⟩ => ⟨S8192, .i1⟩
  | .hbm, ⟨25, _⟩ => ⟨S8192x1024, .f32⟩
  | .hbm, ⟨26, _⟩ => ⟨S8192x1024, .i1⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S1x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S1x1x1024, .f32⟩
  | .hbm, ⟨64, _⟩ => ⟨S4x8192x1024, .f32⟩
  | .hbm, ⟨65, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]
-- ==== Proof.Spec.lean ====
/- THE MATHEMATICS, over extended reals: one row of a linear layer followed by a layer normalisation, in the form that
   divides by the root of the variance (`norm`), and the fact that multiplying by the reciprocal root is the same
   (`mul_rsqrt_variance`). Nothing here speaks of a program. -/
module

public import Idealize.ShloMosaic.PureOps.Ideal
public import Idealize.ShloMosaic.Lib.Pointwise.Tactic

@[expose] public section

noncomputable section

namespace Cert.Proof.Spec

open Idealize.ShloMosaic

/-- The float word of the row length, 1024. -/
abbrev len : EReal := Ideal.ofBits .f32 0x44800000#32

/-- The float word of the variance's offset, the float nearest to 1e-12. -/
abbrev eps : EReal := Ideal.ofBits .f32 0x2B8CBCCC#32

theorem len_eq : len = ((1024 : ℝ) : EReal) := by
  simp [len, Ideal.ofBits, Ideal.ieee, -EReal.coe_mul]; norm_num

/-- The offset is a positive real. -/
theorem eps_pos : 0 < eps := by
  have h : ∃ r : ℝ, 0 < r ∧ eps = (r : EReal) := by
    refine ⟨_, ?_, by simp [eps, Ideal.ofBits, Ideal.ieee, -EReal.coe_mul]; rfl⟩
    positivity
  obtain ⟨r, hr, e⟩ := h
  rw [e]; exact_mod_cast hr

/-- The square of an extended real is not negative. -/
theorem sq_nonneg (x : EReal) : 0 ≤ x * x := by
  rcases le_total 0 x with h | h
  · exact mul_nonneg h h
  · have h' : 0 ≤ -x := by simpa using EReal.neg_le_neg_iff.mpr h
    have e : x * x = (-x) * (-x) := by exact (neg_mul_neg x x).symm
    rw [e]; exact mul_nonneg h' h'

/-- Over a positive extended real, infinite or not, multiplying by the reciprocal root divides by the root. -/
theorem mul_rsqrt (x y : EReal) (hy : 0 < y) : x * Ideal.rsqrt y = Ideal.div x (Ideal.sqrt y) := by
  induction y with
  | bot => exact absurd hy (by simp)
  | top => simp [Ideal.div]
  | coe r =>
    have hr : 0 < r := by exact_mod_cast hy
    rw [Ideal.sqrt_coe, Ideal.rsqrt_coe, if_neg hr.not_gt, if_neg hr.not_gt, if_neg hr.ne',
      Ideal.div_coe (Real.sqrt_pos.mpr hr).ne', one_div]

variable {n : ℕ}

/-- The mean of a row, by the float word of its length. -/
def mean (y : Fin n → EReal) : EReal := Ideal.div (∑ k, y k) len

/-- A row less its mean. -/
def centred (y : Fin n → EReal) (k : Fin n) : EReal := y k - mean y

/-- The mean of the squares of the centred row, with the offset. -/
def variance (y : Fin n → EReal) : EReal := mean (fun k => centred y k * centred y k) + eps

/-- A layer normalisation: the centred row over the root of its variance, scaled and shifted. -/
def norm (y g b : Fin n → EReal) (k : Fin n) : EReal :=
  g k * Ideal.div (centred y k) (Ideal.sqrt (variance y)) + b k

/-- The variance is positive. -/
theorem variance_pos (y : Fin n → EReal) : 0 < variance y := by
  have h : 0 ≤ mean (fun k => centred y k * centred y k) := by
    rw [mean, len_eq, Ideal.div_coe (by norm_num)]
    refine mul_nonneg (Finset.sum_nonneg fun k _ => sq_nonneg _) ?_
    exact_mod_cast (by norm_num : (0 : ℝ) ≤ 1 / 1024)
  calc (0 : EReal) < eps := eps_pos
    _ = 0 + eps := (zero_add _).symm
    _ ≤ variance y := add_le_add_left h _

/-- So the normalisation may multiply by the reciprocal root instead. -/
theorem norm_eq_mul_rsqrt (y g b : Fin n → EReal) (k : Fin n) :
    g k * (centred y k * Ideal.rsqrt (variance y)) + b k = norm y g b k := by
  rw [norm, mul_rsqrt _ _ (variance_pos y)]

/-- A row of a linear layer over the sum of an input row and a position row. -/
def linear (x p : Fin n → EReal) (w : Fin n → Fin n → EReal) (b : Fin n → EReal) (h : Fin n) : EReal :=
  (∑ k, (x k + p k) * w k h) + b h

end Cert.Proof.Spec

end
-- ==== Proof.Block.lean ====
/- WHAT ONE GRID POINT COMPUTES: the kernel body's payload over a block of 1024 input rows, read at a row and a column, is
   the layer normalisation of the linear layer of that row (`pay_apply`). -/
module

public import proofs.«01_k».proof.Proof.Spec
public import proofs.«01_k».proof.Proof.Gen.KernelIdeal.Value
public import Idealize.ShloMosaic.Lib.Pipeline.ValueKit
public import Idealize.ShloMosaic.Lib.Pointwise

@[expose] public section

noncomputable section

namespace Cert.Proof.Block

open Cert.KernelIdeal Cert.KernelIdeal.Gen Idealize.ShloMosaic

/-- The body's payload at row `r`, column `h`. -/
theorem pay_apply (x : Vec Ideal S1x1024x1024 .f32) (p w : Vec Ideal S1024x1024 .f32) (b g s : Vec Ideal S1x1024 .f32)
    (r h : Fin 1024) :
    k0_pay2 x p w b g s (ix2 r h)
      = Spec.norm (Spec.linear (fun k => x (ix3 0 r k)) (fun k => p (ix2 r k)) (fun k l => w (ix2 k l)) (fun l => b (ix2 0 l)))
          (fun l => g (ix2 0 l)) (fun l => s (ix2 0 l)) h := by
  rw [← Spec.norm_eq_mul_rsqrt]
  unfold k0_pay2
  pointwise
  simp only [Spec.variance, Spec.centred, Spec.mean, Spec.linear]

end Cert.Proof.Block

end
-- ==== Proof.Array.lean ====
/- WHAT THE KERNEL'S ARRAY HOLDS AFTER THE RUN (`final`): the grid's 32 points write 32 blocks of 1024 rows that tile
   the result, and each row of each block is the layer normalisation of the linear layer of the same row of the arguments. -/
module

public import proofs.«01_k».proof.Proof.Block

@[expose] public section

noncomputable section

namespace Cert.Proof.Array

open Cert.KernelIdeal Cert.KernelIdeal.Gen Idealize.ShloMosaic Idealize.ShloMosaic.TcCoe Idealize.SL.Sem

variable (m : (ℓ : Loc nD τ sig) → Buf (Elt Ideal) ℓ)

/-- The result array as one function of the argument arrays. -/
def G (c : Dev nD) : Buf (Elt Ideal) ((c.tc : Thread nD τ).loc main_v3) := fun i : S4x8192x1024.Idx =>
  Spec.norm (Spec.linear (fun k => m ((c.tc : Thread nD τ).loc main_arg0) (ix3 (i 0) (i 1) k))
      (fun k => m ((c.tc : Thread nD τ).loc main_arg1) (ix2 (i 1) k)) (fun k l => m ((c.tc : Thread nD τ).loc main_arg2) (ix2 k l))
      (fun l => m ((c.tc : Thread nD τ).loc main_arg3) (ix1 l)))
    (fun l => m ((c.tc : Thread nD τ).loc main_arg4) (ix1 l)) (fun l => m ((c.tc : Thread nD τ).loc main_arg5) (ix1 l)) (i 2)

/-- Each window's block at point `t`, the axis of positions outermost: the batch is `t mod 4`, the block of positions is
    `t / 4`, and the weights and the three vectors are taken whole. -/
theorem index_eq : ∀ t : Fin cfg0.N,
    win0_0.index t = ![t.val % 4, t.val / 4, 0] ∧ win0_1.index t = ![t.val / 4, 0] ∧ win0_2.index t = ![0, 0]
      ∧ win0_3.index t = ![0, 0] ∧ win0_4.index t = ![0, 0] ∧ win0_5.index t = ![0, 0]
      ∧ win0_6.index t = ![t.val % 4, t.val / 4, 0] :=
  (by decide +kernel : ∀ t : Fin grid0.N, _)

/-- What a point stores in its block: the payload under a new unit axis. -/
theorem stored_apply (v : Vec Ideal S1024x1024 .f32) (a : Fin 1) (r h : Fin 1024) :
    k0_pay1 (F := Ideal) v (ix3 a r h) = v (ix2 r h) := by
  unfold k0_pay1
  pointwise

/-- The array after the run is `G` of the arguments. -/
theorem final (c : Dev nD) : (dats m 0 c).arrAt 6 cfg0.N = G m c := by
  refine (dats m 0 c).arrAt_eq_of_covers 6 _ (by decide +kernel) fun t hf y => ?_
  obtain ⟨a, r, h, rfl⟩ : ∃ a r h, y = (ix3 a r h : S1x1024x1024.Idx) :=
    ⟨y 0, y 1, y 2, by funext a; match a with | ⟨0, _⟩ => rfl | ⟨1, _⟩ => rfl | ⟨2, _⟩ => rfl⟩
  blk_simp
  rw [after0_6]
  frame_out
  refine (stored_apply _ a r h).trans ?_
  refine (Block.pay_apply _ _ _ _ _ _ r h).trans ?_
  unfold G
  have e := index_eq t
  congr 1
  · congr 1 <;> funext k
    · blk_ext [iblk, V, e]
    · blk_ext [iblk, V, e]
    · funext l; blk_ext [iblk, V, e]
    · blk_ext! [iblk, V, e]
  · funext l; blk_ext! [iblk, V, e]
  · funext l; blk_ext! [iblk, V, e]
  · refine Fin.ext ?_
    blk_simp [e]

end Cert.Proof.Array

end
-- ==== Proof.RefRow.lean ====
/- WHAT THE REFERENCE COMPUTES, read at an index (`res_apply`): the row of the table that it looks up at position `r` is
   row `r` (`lookup_apply`: the position is neither negative nor past the table's end, so it is not wrapped, not clamped
   and not filled), and the rest is the layer normalisation of the linear layer, as `Spec` spells it. -/
module

public import proofs.«01_k».proof.Proof.Spec
public import proofs.«01_k».proof.Proof.Gen.ReferenceIdeal.Run
public import Idealize.ShloMosaic.Lib.Pointwise
public import Idealize.ShloMosaic.Lib.Routing.Ops
public import Idealize.ShloMosaic.Lib.WordCmp

@[expose] public section

noncomputable section

namespace Cert.Proof.RefRow

open Cert.ReferenceIdeal Cert.ReferenceIdeal.Gen Idealize.ShloMosaic Idealize.ShloMosaic.TcCoe

/-! ## The look-up -/

/-- A position is not negative, so it is looked up as it stands. -/
theorem wrapped (r : Fin 8192) :
    Scalar.select (IntOp.cmpi .slt (BitVec.ofNat 32 r.val) 0#32) (IntOp.addi (BitVec.ofNat 32 r.val) 8192#32)
      (BitVec.ofNat 32 r.val) = BitVec.ofNat 32 r.val := by
  have hr := r.isLt
  have h : IntOp.cmpi .slt (BitVec.ofNat 32 r.val) (BitVec.ofNat 32 0) = BitVec.ofBool (decide (r.val < 0)) :=
    WordCmp.cmpi_slt_ofNat (by omega) (by omega)
  rw [show (0#32 : BitVec 32) = BitVec.ofNat 32 0 from rfl, h]
  simp [Scalar.select]

/-- A position lies between the table's first row and its last. -/
theorem inside (r : Fin 8192) :
    IntOp.andi (IntOp.cmpi .sge (BitVec.ofNat 32 r.val) 0#32) (IntOp.cmpi .sle (BitVec.ofNat 32 r.val) 8191#32) = 1#1 := by
  have hr := r.isLt
  have h0 : IntOp.cmpi .sge (BitVec.ofNat 32 r.val) (BitVec.ofNat 32 0) = BitVec.ofBool (decide (0 ≤ r.val)) :=
    WordCmp.cmpi_sge_ofNat (by omega) (by omega)
  have h1 : IntOp.cmpi .sle (BitVec.ofNat 32 r.val) (BitVec.ofNat 32 8191) = BitVec.ofBool (decide (r.val ≤ 8191)) :=
    WordCmp.cmpi_sle_ofNat (by omega) (by omega)
  rw [show (0#32 : BitVec 32) = BitVec.ofNat 32 0 from rfl, show (8191#32 : BitVec 32) = BitVec.ofNat 32 8191 from rfl, h0, h1,
    decide_eq_true (Nat.zero_le _), decide_eq_true (by omega : r.val ≤ 8191)]
  rfl

/-- The positions as the reference looks them up, a column of words. -/
abbrev positions : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32))) (iotaInDim S8192 32 0))

theorem positions_apply (r : Fin 8192) : positions (ix2 r 0) = BitVec.ofNat 32 r.val := by
  unfold positions
  pointwise
  exact wrapped r

/-- Looked up at position `r`, the table gives its row `r`. -/
theorem gather_apply (x : Vec Ideal S8192x1024 .f32) (r : Fin 8192) (k : Fin 1024) :
    Host.gather gather_S8192x1024_S8192x1_S8192x1024_1_0_n_n_0_1_11024 x positions (ix2 r k) = x (ix2 r k) :=
  Routing.gather_row _ rfl rfl rfl rfl rfl x positions r k r (positions_apply r) (by norm_num)

/-- The looked-up table: the gathered rows where the position is inside the table, a fill elsewhere. -/
abbrev lookup (x : Vec Ideal S8192x1024 .f32) : Vec Ideal S8192x1024 .f32 :=
  select (broadcastInDim S8192x1024 ![0] bcast_S8192_S8192x1024_0
      (Host.reduce IntOp.andi
        (andi (cmpi .sge positions (broadcastInDim S8192x1 ![] bcast_S_S8192x1 (constantI S_ 32 0#32)))
          (cmpi .sle positions (broadcastInDim S8192x1 ![0, 1] bcast_S1x1_S8192x1_0_1
            (broadcastInDim S1x1 ![1] bcast_S1_S1x1_1 (constantI S1 32 8191#32)))))
        (constantI S_ 1 1#1) reducesTo_S8192x1_S8192_d1 h_S_))
    (Host.gather gather_S8192x1024_S8192x1_S8192x1024_1_0_n_n_0_1_11024 x positions)
    (broadcastInDim S8192x1024 ![] bcast_S_S8192x1024 (constant (F := Ideal) S_ .f32 0x7FC00000#32))

/-- It is the table. -/
theorem lookup_eq (x : Vec Ideal S8192x1024 .f32) : lookup x = x := by
  funext i
  obtain ⟨r, k, rfl⟩ : ∃ r k, i = ix2 r k := ⟨i 0, i 1, by funext a; match a with | ⟨0, _⟩ => rfl | ⟨1, _⟩ => rfl⟩
  have hg := gather_apply x r k
  unfold lookup
  generalize Host.gather gather_S8192x1024_S8192x1_S8192x1024_1_0_n_n_0_1_11024 x positions = G at hg
  unfold positions
  pointwise
  simp only [wrapped, inside]
  rw [← hg]
  rfl

/-! ## The result -/

variable (m : (ℓ : Loc nD τ sig) → Buf (Elt Ideal) ℓ)

/-- The reference's result at batch `n`, position `r`, column `h`. -/
theorem res_apply (c : Dev nD) (n : Fin 4) (r : Fin 8192) (h : Fin 1024) :
    Value.res_out0 m c (ix3 n r h)
      = Spec.norm (Spec.linear (fun k => m ((c.tc : Thread nD τ).loc main_arg0) (ix3 n r k))
            (fun k => m ((c.tc : Thread nD τ).loc main_arg1) (ix2 r k)) (fun k l => m ((c.tc : Thread nD τ).loc main_arg2) (ix2 k l))
            (fun l => m ((c.tc : Thread nD τ).loc main_arg3) (ix1 l)))
          (fun l => m ((c.tc : Thread nD τ).loc main_arg4) (ix1 l)) (fun l => m ((c.tc : Thread nD τ).loc main_arg5) (ix1 l)) h := by
  have hl := lookup_eq (m ((c.tc : Thread nD τ).loc main_arg1))
  unfold lookup positions at hl
  unfold Value.res_out0 Value.res_main_v32
  rw [hl]
  pointwise
  simp only [Spec.norm, Spec.variance, Spec.centred, Spec.mean, Spec.linear]

end Cert.Proof.RefRow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefRow
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference terminates, leaves its arguments as they were, and has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the reference's result is the kernel's, of equal arguments. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_out0 m' c = Array.G m c := by
  funext i
  obtain ⟨n, r, h, rfl⟩ : ∃ n r h, i = (ix3 n r h : Cert.ReferenceIdeal.S4x8192x1024.Idx) :=
    ⟨i 0, i 1, i 2, by funext a; match a with | ⟨0, _⟩ => rfl | ⟨1, _⟩ => rfl | ⟨2, _⟩ => rfl⟩
  refine (RefRow.res_apply m' c n r h).trans ?_
  rw [h0, h1, h2, h3, h4, h5]
  rfl

/-- Over the extended reals kernel and reference compute the same function. -/
theorem algebraic : Cert.algebraic_KernelIdeal_ReferenceIdeal := by
  intro m ρ m' ρ' _ hagree
  refine ⟨fun c => Array.G m c, ?_, ?_⟩
  · exact (θ_run Cert.KernelIdeal.defs _ _).mono (fun _ h c => ⟨(h c).1.trans (Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    exact reference_eq m m' c h0 h1 h2 h3 h4 h5

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
